-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S8x1024 : Shape := ⟨2, ![8, 1024]⟩
abbrev S8x1024x1024 : Shape := ⟨3, ![8, 1024, 1024]⟩
abbrev S8x1024x512 : Shape := ⟨3, ![8, 1024, 512]⟩
abbrev S2x1024x1024 : Shape := ⟨3, ![2, 1024, 1024]⟩
abbrev S2x1024x512 : Shape := ⟨3, ![2, 1024, 512]⟩
abbrev S1024x8 : Shape := ⟨2, ![1024, 8]⟩
abbrev S1024 : Shape := ⟨1, ![1024]⟩
abbrev S1024x1 : Shape := ⟨2, ![1024, 1]⟩
abbrev S1x1024x1024 : Shape := ⟨3, ![1, 1024, 1024]⟩
abbrev S1x1024x512 : Shape := ⟨3, ![1, 1024, 512]⟩
abbrev S1024x512 : Shape := ⟨2, ![1024, 512]⟩

abbrev nBuf : Space → Nat
  | .hbm => 5
  | .vmem => 9
  | .smem => 0
  | _ => 0

abbrev bufTy : (tb : Table) → Fin (tcTables nBuf tb) → BufTy
  | .hbm, ⟨0, _⟩ => ⟨S1024x1024, .f32⟩
  | .hbm, ⟨1, _⟩ => ⟨S8x1024, .f32⟩
  | .hbm, ⟨2, _⟩ => ⟨S8x1024x1024, .f32⟩
  | .hbm, ⟨3, _⟩ => ⟨S8x1024x512, .f32⟩
  | .hbm, ⟨4, _⟩ => ⟨S1024x1024, .f32⟩
  | .local _ .vmem, ⟨0, _⟩ => ⟨S1024x1024, .f32⟩
  | .local _ .vmem, ⟨1, _⟩ => ⟨S8x1024, .f32⟩
  | .local _ .vmem, ⟨2, _⟩ => ⟨S2x1024x1024, .f32⟩
  | .local _ .vmem, ⟨3, _⟩ => ⟨S2x1024x1024, .f32⟩
  | .local _ .vmem, ⟨4, _⟩ => ⟨S2x1024x512, .f32⟩
  | .local _ .vmem, ⟨5, _⟩ => ⟨S2x1024x512, .f32⟩
  | .local _ .vmem, ⟨6, _⟩ => ⟨S1024x1024, .f32⟩
  | .local _ .vmem, ⟨7, _⟩ => ⟨S1024x8, .f32⟩
  | .local _ .vmem, ⟨8, _⟩ => ⟨S1024x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c0_i32_23 : BitVec 32 := 0#32
  let v54 : BitVec 1 := Scalar.cmpi .eq arg0 c0_i32_23
  let v55 : BitVec 32 := Scalar.extui v54
  let c0_i32_24 : BitVec 32 := 0#32
  let v56 : BitVec 1 := Scalar.cmpi .ne v55 c0_i32_24
  v56

def k0_cond3 (i : grid0.Coords) : BitVec 1 :=
  let arg0 : BitVec 32 := BitVec.ofNat 32 (i 0).val
  let c0_i32_25 : BitVec 32 := 0#32
  let v57 : BitVec 1 := Scalar.cmpi .ne arg0 c0_i32_25
  let v58 : BitVec 32 := Scalar.extui v57
  let c0_i32_26 : BitVec 32 := 0#32
  let v59 : BitVec 1 := Scalar.cmpi .ne v58 c0_i32_26
  v59

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S1024x1024 : Shape := ⟨2, ![1024, 1024]⟩
abbrev S8x1024 : Shape := ⟨2, ![8, 1024]⟩
abbrev S8x1024x1024 : Shape := ⟨3, ![8, 1024, 1024]⟩
abbrev S8x1024x512 : Shape := ⟨3, ![8, 1024, 512]⟩
abbrev S1024x8 : Shape := ⟨2, ![1024, 8]⟩
abbrev S_ : Shape := ⟨0, ![]⟩
abbrev S1024 : Shape := ⟨1, ![1024]⟩
abbrev S1024x1 : Shape := ⟨2, ![1024, 1]⟩
abbrev S1024x2 : Shape := ⟨2, ![1024, 2]⟩
abbrev S1024x2x1 : Shape := ⟨3, ![1024, 2, 1]⟩
abbrev S1x1x8 : Shape := ⟨3, ![1, 1, 8]⟩
abbrev S1024x2x8 : Shape := ⟨3, ![1024, 2, 8]⟩
abbrev S1024x8x1024 : Shape := ⟨3, ![1024, 8, 1024]⟩
abbrev S1024x8x512 : Shape := ⟨3, ![1024, 8, 512]⟩

abbrev nBuf : Space → Nat
  | .hbm => 54
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S8x1024, .f32⟩
  | .hbm, ⟨2, _⟩ => ⟨S8x1024x1024, .f32⟩
  | .hbm, ⟨3, _⟩ => ⟨S8x1024x512, .f32⟩
  | .hbm, ⟨4, _⟩ => ⟨S1024x8, .f32⟩
  | .hbm, ⟨5, _⟩ => ⟨S1024x8, .f32⟩
  | .hbm, ⟨6, _⟩ => ⟨S_, .f32⟩
  | .hbm, ⟨7, _⟩ => ⟨S1024, .f32⟩
  | .hbm, ⟨8, _⟩ => ⟨S_, .f32⟩
  | .hbm, ⟨9, _⟩ => ⟨S1024, .f32⟩
  | .hbm, ⟨10, _⟩ => ⟨S1024, .f32⟩
  | .hbm, ⟨11, _⟩ => ⟨S1024x1, .f32⟩
  | .hbm, ⟨12, _⟩ => ⟨S1024x8, .f32⟩
  | .hbm, ⟨13, _⟩ => ⟨S1024x8, .f32⟩
  | .hbm, ⟨14, _⟩ => ⟨S1024x8, .f32⟩
  | .hbm, ⟨15, _⟩ => ⟨S_, .f32⟩
  | .hbm, ⟨16, _⟩ => ⟨S1024, .f32⟩
  | .hbm, ⟨17, _⟩ => ⟨S1024x1, .f32⟩
  | .hbm, ⟨18, _⟩ => ⟨S1024x8, .f32⟩
  | .hbm, ⟨19, _⟩ => ⟨S1024x8, .f32⟩
  | .hbm, ⟨20, _⟩ => ⟨S1024x2, .f32⟩
  | .hbm, ⟨21, _⟩ => ⟨S1024x2, .i32⟩
  | .hbm, ⟨22, _⟩ => ⟨S_, .f32⟩
  | .hbm, ⟨23, _⟩ => ⟨S1024, .f32⟩
  | .hbm, ⟨24, _⟩ => ⟨S1024x1, .f32⟩
  | .hbm, ⟨25, _⟩ => ⟨S1024x2, .f32⟩
  | .hbm, ⟨26, _⟩ => ⟨S1024x2, .f32⟩
  | .hbm, ⟨27, _⟩ => ⟨S1024x2x1, .i32⟩
  | .hbm, ⟨28, _⟩ => ⟨S1x1x8, .i32⟩
  | .hbm, ⟨29, _⟩ => ⟨S1024x2x8, .i32⟩
  | .hbm, ⟨30, _⟩ => ⟨S1024x2x8, .i32⟩
  | .hbm, ⟨31, _⟩ => ⟨S1024x2x8, .i1⟩
  | .hbm, ⟨32, _⟩ => ⟨S1024x2x8, .f32⟩
  | .hbm, ⟨33, _⟩ => ⟨S1024x2x1, .f32⟩
  | .hbm, ⟨34, _⟩ => ⟨S1024x2x8, .f32⟩
  | .hbm, ⟨35, _⟩ => ⟨S1024x2x8, .f32⟩
  | .hbm, ⟨36, _⟩ => ⟨S_, .f32⟩
  | .hbm, ⟨37, _⟩ => ⟨S1024x8, .f32⟩
  | .hbm, ⟨38, _⟩ => ⟨S1024x8x1024, .f32⟩
  | .hbm, ⟨39, _⟩ => ⟨S1024x8x512, .f32⟩
  | .hbm, ⟨40, _⟩ => ⟨S1024x8x512, .f32⟩
  | .hbm, ⟨41, _⟩ => ⟨S1024x8x512, .f32⟩
  | .hbm, ⟨42, _⟩ => ⟨S1024x8x512, .f32⟩
  | .hbm, ⟨43, _⟩ => ⟨S_, .f32⟩
  | .hbm, ⟨44, _⟩ => ⟨S1024x8x512, .f32⟩
  | .hbm, ⟨45, _⟩ => ⟨S1024x8x512, .f32⟩
  | .hbm, ⟨46, _⟩ => ⟨S_, .f32⟩
  | .hbm, ⟨47, _⟩ => ⟨S1024x8x512, .f32⟩
  | .hbm, ⟨48, _⟩ => ⟨S1024x8x512, .f32⟩
  | .hbm, ⟨49, _⟩ => ⟨S1024x8x512, .f32⟩
  | .hbm, ⟨50, _⟩ => ⟨S1024x8x512, .f32⟩
  | .hbm, ⟨51, _⟩ => ⟨S8x1024x1024, .f32⟩
  | .hbm, ⟨52, _⟩ => ⟨S1024x8x1024, .f32⟩
  | .hbm, ⟨53, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_values : Ref sig .tc := ⟨.hbm, 20, rfl⟩
abbrev main_indices : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_call1_v0 : Ref sig .tc := ⟨.hbm, 41, rfl⟩
abbrev main_call1_v1 : Ref sig .tc := ⟨.hbm, 42, rfl⟩
abbrev main_call1_cst : Ref sig .tc := ⟨.hbm, 43, rfl⟩
abbrev main_call1_v2 : Ref sig .tc := ⟨.hbm, 44, rfl⟩
abbrev main_call1_v3 : Ref sig .tc := ⟨.hbm, 45, rfl⟩
abbrev main_call1_cst_0 : Ref sig .tc := ⟨.hbm, 46, rfl⟩
abbrev main_call1_v4 : Ref sig .tc := ⟨.hbm, 47, rfl⟩
abbrev main_call1_v5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩

abbrev nD : Nat := 1
abbrev τ : Topo := Topo.v7x

variable {F : FTy → Type} [FloatOps F]
-- ==== Proof.TopTwo.lean ====
/- The two largest entries of a row of eight extended reals, ties going to the lower position: what it means to be these
   two positions, that a stable descending sort puts them first, and that taking a maximum, masking it and taking the
   maximum again finds them. -/
module

public import Idealize.ShloMosaic.Lib.SortFacts
public import Idealize.ShloMosaic.Lib.Pointwise

@[expose] public section

noncomputable section

namespace Cert.Moe

open Idealize.ShloMosaic

/-- Position `a` comes before position `b` in the descending order of the row `p`: a larger entry first, and of two
    equal entries the one at the lower position. -/
def Ahead (p : Fin 8 → EReal) (a b : Fin 8) : Prop := p b < p a ∨ (p a = p b ∧ a < b)

/-- `i` and `j` are the first and the second position of the row `p` in descending order. -/
structure TopTwo (p : Fin 8 → EReal) (i j : Fin 8) : Prop where
  first : ∀ e, e ≠ i → Ahead p i e
  ne : j ≠ i
  second : ∀ e, e ≠ i → e ≠ j → Ahead p j e

/-- An entry not smaller, at a lower position, comes before. -/
theorem ahead_of_le {p : Fin 8 → EReal} {a b : Fin 8} (h : p b ≤ p a) (hab : a < b) : Ahead p a b := by
  rcases lt_or_eq_of_le h with h | h
  · exact Or.inl h
  · exact Or.inr ⟨h.symm, hab⟩

/-- What comes before is not smaller. -/
theorem Ahead.le {p : Fin 8 → EReal} {a b : Fin 8} (h : Ahead p a b) : p b ≤ p a := by
  rcases h with h | h
  · exact h.le
  · exact h.1.ge

/-- "Sorts strictly before" for a descending sort of the row `p`: the entry is larger. -/
def larger (p : Fin 8 → EReal) (a b : Fin 8) : Bool := decide (p b < p a)

/-- Inserting a position lower than all of an ordered list keeps the list ordered. -/
theorem pairwise_insertBefore_larger (p : Fin 8 → EReal) (a : Fin 8) : ∀ l : List (Fin 8), l.Pairwise (Ahead p) →
    (∀ b ∈ l, a < b) → (insertBefore (larger p) a l).Pairwise (Ahead p)
  | [], _, _ => List.pairwise_singleton _ _
  | b :: l, hl, ha => by
    have hb := List.pairwise_cons.mp hl
    unfold insertBefore
    by_cases h : p a < p b
    · rw [if_pos (by simpa [larger] using h)]
      refine List.pairwise_cons.mpr ⟨fun c hc => ?_, pairwise_insertBefore_larger p a l hb.2 fun c hc => ha c (List.mem_cons_of_mem b hc)⟩
      rcases List.mem_cons.mp ((perm_insertBefore (larger p) a l).mem_iff.mp hc) with rfl | hc
      · exact Or.inl h
      · exact hb.1 c hc
    · rw [if_neg (by simpa [larger] using h)]
      have hba : p b ≤ p a := not_lt.mp h
      refine List.pairwise_cons.mpr ⟨fun c hc => ?_, hl⟩
      rcases List.mem_cons.mp hc with rfl | hc'
      · exact ahead_of_le hba (ha _ hc)
      · exact ahead_of_le ((hb.1 c hc').le.trans hba) (ha c hc)

/-- The stable descending sort of positions given in increasing order is ordered, ties by position. -/
theorem pairwise_stableSort_larger (p : Fin 8 → EReal) : ∀ l : List (Fin 8), l.Pairwise (· < ·) →
    (stableSort (larger p) l).Pairwise (Ahead p)
  | [], _ => List.Pairwise.nil
  | a :: l, hl => by
    have ha := List.pairwise_cons.mp hl
    unfold stableSort
    exact pairwise_insertBefore_larger p a _ (pairwise_stableSort_larger p l ha.2) fun b hb =>
      ha.1 b ((perm_stableSort (larger p) l).mem_iff.mp hb)

/-- An earlier position of the descending sort comes before a later one. -/
theorem ahead_sortedFrom (p : Fin 8 → EReal) (i j : Fin 8) (hij : i < j) :
    Ahead p (sortedFrom (larger p) i) (sortedFrom (larger p) j) := by
  have hp : ∀ a b : Fin (sortPositions 8 (larger p)).length, a < b →
      Ahead p ((sortPositions 8 (larger p)).get a) ((sortPositions 8 (larger p)).get b) :=
    List.pairwise_iff_get.mp (pairwise_stableSort_larger p (List.finRange 8) (List.pairwise_lt_finRange 8))
  unfold sortedFrom
  exact hp _ _ (by simp only [Fin.lt_def, Fin.val_cast]; exact hij)

/-- The first two positions of the descending sort are the row's top two. -/
theorem topTwo_sortedFrom (p : Fin 8 → EReal) : TopTwo p (sortedFrom (larger p) 0) (sortedFrom (larger p) 1) where
  first e he := by
    obtain ⟨k, rfl⟩ := sortedFrom_surjective (larger p) e
    exact ahead_sortedFrom p 0 k (Fin.pos_of_ne_zero fun h => he (by rw [h]))
  ne h := absurd (sortedFrom_injective (larger p) h) (by decide)
  second e h0 h1 := by
    obtain ⟨k, rfl⟩ := sortedFrom_surjective (larger p) e
    refine ahead_sortedFrom p 1 k ?_
    have hk0 : k ≠ 0 := fun h => h0 (by rw [h])
    have hk1 : k ≠ 1 := fun h => h1 (by rw [h])
    clear h0 h1
    revert k; decide

/-- The row's maximum, from `-∞`. -/
def rowMax (p : Fin 8 → EReal) : EReal := Finset.univ.fold max ⊥ p

theorem le_rowMax (p : Fin 8 → EReal) (e : Fin 8) : p e ≤ rowMax p :=
  (Finset.le_fold_max (p e)).mpr (Or.inr ⟨e, Finset.mem_univ e, le_rfl⟩)

theorem rowMax_le {p : Fin 8 → EReal} {v : EReal} (h : ∀ e, p e ≤ v) : rowMax p ≤ v :=
  (Finset.fold_max_le v).mpr ⟨bot_le, fun e _ => h e⟩

/-- The maximum is the entry at a position no other exceeds. -/
theorem rowMax_eq {p : Fin 8 → EReal} {i : Fin 8} (h : ∀ e, p e ≤ p i) : rowMax p = p i :=
  le_antisymm (rowMax_le h) (le_rowMax p i)

/-- Some position attains the maximum. -/
theorem exists_eq_rowMax (p : Fin 8 → EReal) : ∃ i, p i = rowMax p := by
  obtain ⟨i, -, hi⟩ := Finset.exists_max_image Finset.univ p ⟨0, Finset.mem_univ 0⟩
  exact ⟨i, (rowMax_eq fun e => hi e (Finset.mem_univ e)).symm⟩

/-- The lowest position at which the row holds `v`, as a 32-bit word: the minimum of the positions holding `v`, every
    other position counting as 8. -/
def firstAt (p : Fin 8 → EReal) (v : EReal) : BitVec 32 :=
  Finset.univ.fold IntOp.minsi 2147483647#32 fun e : Fin 8 => if p e = v then BitVec.ofNat 32 e.val else 8#32

/-- The minimum of the marked positions is the lowest marked one. -/
theorem fold_minsi_marked : ∀ (c : Fin 8 → Bool) (i : Fin 8), c i = true → (∀ e, c e = true → i ≤ e) →
    (Finset.univ.fold IntOp.minsi 2147483647#32 fun e : Fin 8 => if c e = true then BitVec.ofNat 32 e.val else 8#32)
      = BitVec.ofNat 32 i.val := by
  decide +kernel

/-- A position holding `v`, none lower doing so, is the one found. -/
theorem firstAt_eq {p : Fin 8 → EReal} {v : EReal} {i : Fin 8} (hi : p i = v) (h : ∀ e, p e = v → i ≤ e) :
    firstAt p v = BitVec.ofNat 32 i.val := by
  have := fold_minsi_marked (fun e => decide (p e = v)) i (by simpa using hi) fun e he => h e (by simpa using he)
  unfold firstAt
  simpa only [decide_eq_true_eq] using this

/-- The row with position `i` masked to `-∞`. -/
def masked (p : Fin 8 → EReal) (i : Fin 8) : Fin 8 → EReal := fun e => if e = i then ⊥ else p e

namespace TopTwo

variable {p : Fin 8 → EReal} {i j : Fin 8} (h : TopTwo p i j)
include h

/-- No entry exceeds the first. -/
theorem le_first (e : Fin 8) : p e ≤ p i := by
  by_cases he : e = i
  · rw [he]
  · exact (h.first e he).le

/-- The maximum is the first entry. -/
theorem max_eq : rowMax p = p i := rowMax_eq h.le_first

/-- The lowest position holding the maximum is the first position. -/
theorem firstAt_max : firstAt p (rowMax p) = BitVec.ofNat 32 i.val := by
  refine firstAt_eq h.max_eq.symm fun e he => ?_
  by_cases hei : e = i
  · rw [hei]
  · rcases h.first e hei with hlt | hlt
    · rw [he, h.max_eq] at hlt; exact absurd hlt (lt_irrefl _)
    · exact hlt.2.le

/-- After masking the first position, no entry exceeds the second. -/
theorem masked_le (e : Fin 8) : masked p i e ≤ masked p i j := by
  unfold masked
  rw [if_neg h.ne]
  by_cases hei : e = i
  · rw [if_pos hei]; exact bot_le
  · rw [if_neg hei]
    by_cases hej : e = j
    · rw [hej]
    · exact (h.second e hei hej).le

/-- The maximum after masking is the second entry. -/
theorem masked_max_eq : rowMax (masked p i) = p j := by
  rw [rowMax_eq h.masked_le, masked, if_neg h.ne]

/-- Where no entry is `-∞`, the lowest position holding the maximum after masking is the second position. -/
theorem firstAt_masked (hp : ∀ e, p e ≠ ⊥) : firstAt (masked p i) (rowMax (masked p i)) = BitVec.ofNat 32 j.val := by
  have hj : masked p i j = p j := by rw [masked, if_neg h.ne]
  refine firstAt_eq (by rw [h.masked_max_eq, hj]) fun e he => ?_
  rw [h.masked_max_eq] at he
  by_cases hei : e = i
  · rw [masked, if_pos hei] at he
    exact absurd he.symm (hp j)
  · rw [masked, if_neg hei] at he
    by_cases hej : e = j
    · rw [hej]
    · rcases h.second e hei hej with hlt | hlt
      · rw [he] at hlt; exact absurd hlt (lt_irrefl _)
      · exact hlt.2.le

end TopTwo

end Cert.Moe
-- ==== Proof.Softmax.lean ====
/- The softmax of a row of eight extended reals, computed as both programs do (subtract the maximum, exponentiate,
   divide by the sum): either the maximum is infinite and every entry is `-∞`, or the entries are nonnegative reals and
   one of them is positive. -/
module

public import proofs.«01_k».proof.Proof.TopTwo

@[expose] public section

noncomputable section

namespace Cert.Moe

open Idealize.ShloMosaic

/-- The softmax of the row `l` at position `e`. -/
def softmax (l : Fin 8 → EReal) (e : Fin 8) : EReal :=
  Ideal.div (Ideal.exp (l e - max ⊥ (rowMax l))) (∑ d, Ideal.exp (l d - max ⊥ (rowMax l)))

/-- What a softmax row can be: all `-∞`, or nonnegative reals of which one is positive. -/
def IsProbs (p : Fin 8 → EReal) : Prop :=
  (∀ e, p e = ⊥) ∨ ∃ x : Fin 8 → ℝ, (∀ e, p e = (x e : EReal)) ∧ (∀ e, 0 ≤ x e) ∧ ∃ e, 0 < x e

/-- A sum of reals, read as extended reals, is the real sum. -/
theorem sum_coe (x : Fin 8 → ℝ) : ∑ e, (x e : EReal) = ((∑ e, x e : ℝ) : EReal) :=
  (map_sum (⟨⟨Real.toEReal, EReal.coe_zero⟩, EReal.coe_add⟩ : ℝ →+ EReal) x Finset.univ).symm

/-- Real division by a nonzero number is the extended division. -/
theorem div_coe_coe (x y : ℝ) (hy : y ≠ 0) : Ideal.div (x : EReal) (y : EReal) = ((x / y : ℝ) : EReal) := by
  unfold Ideal.div
  rw [if_neg (by simpa using hy), div_eq_mul_inv, EReal.coe_mul, EReal.coe_inv]

/-- With every exponential zero the quotient is `-∞`. -/
theorem div_zero_zero : Ideal.div 0 0 = ⊥ := by
  unfold Ideal.div
  rw [if_pos rfl, if_neg (lt_irrefl _)]

/-- At or below a real bound, the exponential of the difference is a nonnegative real. -/
theorem exp_sub_coe {v : EReal} {r : ℝ} (h : v ≤ (r : EReal)) : ∃ x : ℝ, Ideal.exp (v - (r : EReal)) = (x : EReal) ∧ 0 ≤ x := by
  induction v with
  | bot => exact ⟨0, by rw [EReal.bot_sub]; rfl, le_rfl⟩
  | top => exact absurd (top_le_iff.mp h) (EReal.coe_ne_top r)
  | coe a => exact ⟨Real.exp (a - r), by rw [← EReal.coe_sub]; rfl, (Real.exp_pos _).le⟩

/-- A softmax row is all `-∞`, or nonnegative reals of which one is positive. -/
theorem isProbs_softmax (l : Fin 8 → EReal) : IsProbs (softmax l) := by
  have hle : ∀ e, l e ≤ max ⊥ (rowMax l) := fun e => (le_rowMax l e).trans (le_max_right _ _)
  obtain ⟨i, hi⟩ := exists_eq_rowMax l
  have hi : l i = max ⊥ (rowMax l) := by rw [hi, max_eq_right bot_le]
  unfold softmax
  generalize max ⊥ (rowMax l) = M at hle hi
  have hzero : (∀ e, l e - M = ⊥) → IsProbs fun e => Ideal.div (Ideal.exp (l e - M)) (∑ d, Ideal.exp (l d - M)) := by
    intro h0
    left
    intro e
    have hx : ∀ e, Ideal.exp (l e - M) = 0 := fun e => by rw [h0 e]; rfl
    simp only [hx, Finset.sum_const_zero]
    exact div_zero_zero
  induction M with
  | bot => exact hzero fun e => by rw [le_bot_iff.mp (hle e)]; rfl
  | top => exact hzero fun e => by rw [sub_eq_add_neg]; exact EReal.add_bot _
  | coe r =>
    choose x hx hx0 using fun e => exp_sub_coe (hle e)
    have hi1 : x i = 1 := by
      have := hx i
      rw [hi, ← EReal.coe_sub, sub_self] at this
      have h1 : Ideal.exp ((0 : ℝ) : EReal) = ((Real.exp 0 : ℝ) : EReal) := rfl
      rw [h1, Real.exp_zero] at this
      exact (EReal.coe_eq_coe_iff.mp this).symm
    have hS : 0 < ∑ e, x e :=
      lt_of_lt_of_le (by rw [hi1]; exact one_pos) (Finset.single_le_sum (fun e _ => hx0 e) (Finset.mem_univ i))
    right
    refine ⟨fun e => x e / ∑ d, x d, fun e => ?_, fun e => div_nonneg (hx0 e) hS.le, i, ?_⟩
    · simp only [hx]
      rw [sum_coe, div_coe_coe _ _ hS.ne']
    · show 0 < x i / ∑ d, x d
      rw [hi1]; exact div_pos one_pos hS

end Cert.Moe
-- ==== Proof.Weights.lean ====
/- The combine weights of a row of router probabilities: the top two entries over their sum, placed at their positions,
   zero elsewhere. They are nonnegative reals, and the two-maxima computation produces them. -/
module

public import proofs.«01_k».proof.Proof.Softmax

@[expose] public section

noncomputable section

namespace Cert.Moe

open Idealize.ShloMosaic

/-- The combine weight at position `e`, the row's top two positions being `i` and `j`. -/
def weight (p : Fin 8 → EReal) (i j e : Fin 8) : EReal :=
  (if e = i then Ideal.div (p i) (p i + p j) else 0) + (if e = j then Ideal.div (p j) (p i + p j) else 0)

/-- In a row of `-∞` the quotients are zero. -/
theorem div_bot_bot : Ideal.div ⊥ ((⊥ : EReal) + ⊥) = 0 := by
  rw [EReal.bot_add]
  unfold Ideal.div
  rw [if_neg EReal.bot_ne_zero, EReal.inv_bot, mul_zero]

/-- The weights of a softmax row are nonnegative reals. -/
theorem weight_real {p : Fin 8 → EReal} {i j : Fin 8} (hp : IsProbs p) (h : TopTwo p i j) (e : Fin 8) :
    ∃ w : ℝ, 0 ≤ w ∧ weight p i j e = (w : EReal) := by
  unfold weight
  rcases hp with hp | ⟨x, hx, hx0, d, hd⟩
  · refine ⟨0, le_rfl, ?_⟩
    simp only [hp, div_bot_bot, ite_self, add_zero, EReal.coe_zero]
  · have hi : 0 < x i := by
      have := h.le_first d
      rw [hx, hx, EReal.coe_le_coe_iff] at this
      exact lt_of_lt_of_le hd this
    have hs : 0 < x i + x j := add_pos_of_pos_of_nonneg hi (hx0 j)
    have hq : ∀ k, 0 ≤ x k / (x i + x j) := fun k => div_nonneg (hx0 k) hs.le
    refine ⟨(if e = i then x i / (x i + x j) else 0) + (if e = j then x j / (x i + x j) else 0),
      add_nonneg (by split_ifs; exacts [hq i, le_rfl]) (by split_ifs; exacts [hq j, le_rfl]), ?_⟩
    rw [hx i, hx j, ← EReal.coe_add, div_coe_coe _ _ hs.ne', div_coe_coe _ _ hs.ne', EReal.coe_add]
    congr 1 <;> split_ifs <;> rfl

/-- Choosing on the equality of two positions' words is choosing on the positions' equality. -/
theorem select_word_eq {α : Type} (e i : Fin 8) (a b : α) :
    Scalar.select (IntOp.cmpi .eq (BitVec.ofNat 32 e.val) (BitVec.ofNat 32 i.val)) a b = if e = i then a else b := by
  have hw : ∀ e i : Fin 8, IntOp.cmpi .eq (BitVec.ofNat 32 e.val) (BitVec.ofNat 32 i.val) = if e = i then 1#1 else 0#1 := by
    decide +kernel
  rw [hw]
  by_cases he : e = i
  · rw [if_pos he, if_pos he]; rfl
  · rw [if_neg he, if_neg he]; rfl

/-- The row with the position whose word is `w` masked to `-∞`. -/
def maskedAt (p : Fin 8 → EReal) (w : BitVec 32) (e : Fin 8) : EReal :=
  Scalar.select (IntOp.cmpi .eq (BitVec.ofNat 32 e.val) w) ⊥ (p e)

/-- The combine weight computed by two maxima: of the row, and of the row with the first maximum's position masked. -/
def maximaWeight (p : Fin 8 → EReal) (e : Fin 8) : EReal :=
  let w := firstAt p (rowMax p)
  let q := maskedAt p w
  Scalar.select (IntOp.cmpi .eq (BitVec.ofNat 32 e.val) w) (Ideal.div (rowMax p) (rowMax p + rowMax q)) 0
    + Scalar.select (IntOp.cmpi .eq (BitVec.ofNat 32 e.val) (firstAt q (rowMax q))) (Ideal.div (rowMax q) (rowMax p + rowMax q)) 0

/-- On a softmax row the two-maxima computation gives the combine weights. -/
theorem maximaWeight_eq {p : Fin 8 → EReal} {i j : Fin 8} (hp : IsProbs p) (h : TopTwo p i j) (e : Fin 8) :
    maximaWeight p e = weight p i j e := by
  have hq : maskedAt p (firstAt p (rowMax p)) = masked p i := by
    funext d
    rw [h.firstAt_max, maskedAt, select_word_eq, masked]
  unfold maximaWeight weight
  dsimp only
  rw [hq, h.firstAt_max, h.masked_max_eq, h.max_eq, select_word_eq]
  rcases hp with hp | ⟨x, hx, -, -⟩
  · have hsel : ∀ c : BitVec 1, Scalar.select c (0 : EReal) 0 = 0 := fun c => by unfold Scalar.select; exact ite_self _
    simp only [hp, div_bot_bot, hsel, ite_self]
  · have := h.firstAt_masked fun e => by rw [hx]; exact EReal.coe_ne_bot _
    rw [h.masked_max_eq] at this
    rw [this, select_word_eq]

end Cert.Moe
-- ==== Proof.KernelWeights.lean ====
/- What the kernel's first grid step leaves in its scratch of combine weights, read at a token and an expert: the
   two-maxima weights of the token's softmax row. -/
module

public import proofs.«01_k».proof.Proof.Gen.KernelIdeal.Value
public import proofs.«01_k».proof.Proof.Weights

@[expose] public section

set_option maxRecDepth 16384

noncomputable section

namespace Cert.KernelIdeal.Moe

open Cert.KernelIdeal Cert.KernelIdeal.Gen Cert.Moe Idealize.ShloMosaic Idealize.ShloMosaic.TcCoe Idealize.SL.Sem

/-- The pattern of minus infinity is `-∞`. -/
theorem ofBits_neg_inf : Ideal.ofBits .f32 0xFF800000#32 = ⊥ := by
  simp [Ideal.ofBits, Ideal.ieee]

/-- Token `r`'s logits. -/
def logitRow (x : FVec Ideal S1024x1024 .f32) (wr : FVec Ideal S8x1024 .f32) (r : Fin 1024) (e : Fin 8) : EReal :=
  ∑ k : Fin 1024, x (ix2 r k) * wr (ix2 e k)

/-- The combine weights the first grid step stores. -/
def weights (x : Vec Ideal S1024x1024 .f32) (wr : Vec Ideal S8x1024 .f32) : FVec Ideal S1024x8 .f32 :=
  k0_pay12 (iota .tc S1024x8 32 [1] iota_S1024x8_d1_w32) (k0_pay8 x wr) (k0_pay10 x wr) (k0_pay11 x wr)

variable (x : Vec Ideal S1024x1024 .f32) (wr : Vec Ideal S8x1024 .f32) (r : Fin 1024)

/-- The probabilities are the softmax of the logits. -/
theorem probs_at (e : Fin 8) : k0_pay3 (F := Ideal) x wr (ix2 r e) = softmax (logitRow x wr r) e := by
  pointwise [k0_pay3]
  rw [ofBits_neg_inf]
  rfl

/-- The first maximum. -/
theorem max_at : k0_pay4 (F := Ideal) x wr (ix2 r 0) = rowMax (softmax (logitRow x wr r)) := by
  pointwise [k0_pay4]
  rw [ofBits_neg_inf]
  unfold rowMax
  simp only [probs_at]

/-- The position of the first maximum. -/
theorem pos_at : k0_pay5 (F := Ideal) x wr (ix2 r 0)
    = firstAt (softmax (logitRow x wr r)) (rowMax (softmax (logitRow x wr r))) := by
  pointwise [k0_pay5]
  unfold firstAt
  simp only [probs_at, max_at]

/-- The row with the first maximum masked. -/
theorem masked_at (e : Fin 8) : k0_pay6 (F := Ideal) x wr (ix2 r e)
    = maskedAt (softmax (logitRow x wr r)) (firstAt (softmax (logitRow x wr r)) (rowMax (softmax (logitRow x wr r)))) e := by
  pointwise [k0_pay6]
  rw [ofBits_neg_inf, probs_at, pos_at]
  rfl

/-- The second maximum. -/
theorem max2_at : k0_pay7 (F := Ideal) x wr (ix2 r 0)
    = rowMax (maskedAt (softmax (logitRow x wr r)) (firstAt (softmax (logitRow x wr r)) (rowMax (softmax (logitRow x wr r))))) := by
  pointwise [k0_pay7]
  rw [ofBits_neg_inf]
  unfold rowMax
  simp only [masked_at]
  rfl

/-- The position of the second maximum. -/
theorem pos2_at : k0_pay8 (F := Ideal) x wr (ix2 r 0)
    = firstAt (maskedAt (softmax (logitRow x wr r)) (firstAt (softmax (logitRow x wr r)) (rowMax (softmax (logitRow x wr r)))))
        (rowMax (maskedAt (softmax (logitRow x wr r)) (firstAt (softmax (logitRow x wr r)) (rowMax (softmax (logitRow x wr r)))))) := by
  pointwise [k0_pay8]
  rw [max2_at]
  simp only [masked_at]
  rfl

/-- The stored weights are the two-maxima weights of the token's softmax row. -/
theorem weights_at (e : Fin 8) : weights x wr (ix2 r e) = maximaWeight (softmax (logitRow x wr r)) e := by
  unfold weights
  pointwise [k0_pay12, k0_pay10, k0_pay11, k0_pay9]
  rw [max_at, max2_at, pos_at, pos2_at]
  rfl

end Cert.KernelIdeal.Moe
-- ==== Proof.Experts.lean ====
/- One expert on one token: its gated activations and its output, and that scaling every activation by a nonnegative real
   weight before the last product scales the output. -/
module

public import proofs.«01_k».proof.Proof.Weights

@[expose] public section

noncomputable section

namespace Cert.Moe

open Idealize.ShloMosaic

/-- The activation at hidden position `f`: the gate (row `f` of the projection `g`), times its logistic, times the up
    value (row `512 + f`). -/
def act (x : Fin 1024 → EReal) (g : Fin 1024 → Fin 1024 → EReal) (f : Fin 512) : EReal :=
  (∑ k, x k * g ⟨f.val, by omega⟩ k) * Ideal.logistic (∑ k, x k * g ⟨f.val, by omega⟩ k)
    * ∑ k, x k * g ⟨512 + f.val, by omega⟩ k

/-- The expert's output at one model position, `d` being that row of the down projection. -/
def expertOut (x : Fin 1024 → EReal) (g : Fin 1024 → Fin 1024 → EReal) (d : Fin 512 → EReal) : EReal :=
  ∑ f, d f * act x g f

/-- The same with every activation scaled by `c` first. -/
def scaledOut (c : EReal) (x : Fin 1024 → EReal) (g : Fin 1024 → Fin 1024 → EReal) (d : Fin 512 → EReal) : EReal :=
  ∑ f, act x g f * c * d f

/-- A nonnegative real factor moves into a finite sum. -/
theorem mul_sum_of_real {c : EReal} (hc : ∃ w : ℝ, 0 ≤ w ∧ c = (w : EReal)) {n : ℕ} (y : Fin n → EReal) :
    c * ∑ f, y f = ∑ f, c * y f := by
  obtain ⟨w, hw, rfl⟩ := hc
  induction (Finset.univ : Finset (Fin n)) using Finset.induction_on with
  | empty => simp
  | insert a s ha ih =>
    rw [Finset.sum_insert ha, Finset.sum_insert ha, ← ih]
    exact EReal.left_distrib_of_nonneg_of_ne_top (EReal.coe_nonneg.mpr hw) (EReal.coe_ne_top w) _ _

/-- Scaling the activations by a nonnegative real scales the output. -/
theorem scaledOut_eq {c : EReal} (hc : ∃ w : ℝ, 0 ≤ w ∧ c = (w : EReal)) (x : Fin 1024 → EReal)
    (g : Fin 1024 → Fin 1024 → EReal) (d : Fin 512 → EReal) : scaledOut c x g d = c * expertOut x g d := by
  unfold scaledOut expertOut
  rw [mul_sum_of_real hc]
  refine Finset.sum_congr rfl fun f _ => ?_
  rw [mul_comm (act x g f) c, mul_assoc, mul_comm (act x g f)]

/-- Summing a row of eight with every position but `j` zeroed leaves its entry at `j`. -/
theorem sum_select_word (c : Fin 8 → EReal) (j : Fin 8) :
    ∑ e : Fin 8, Scalar.select (IntOp.cmpi .eq (BitVec.ofNat 32 e.val) (BitVec.ofNat 32 j.val)) (c e) 0 = c j := by
  simp only [select_word_eq]
  rw [Finset.sum_ite_eq' Finset.univ j c, if_pos (Finset.mem_univ j)]

/-- The two experts handled together, by number. -/
def even (g : Fin 4) : Fin 8 := ⟨2 * g.val, by omega⟩

/-- … the second of them. -/
def odd (g : Fin 4) : Fin 8 := ⟨2 * g.val + 1, by omega⟩

/-- The first expert's number as the word computed from the step's number. -/
theorem word_even : ∀ g : Fin 4, Scalar.muli 2#32 (BitVec.ofNat 32 g.val) = BitVec.ofNat 32 (even g).val := by
  decide +kernel

/-- The second expert's number as the word computed from the step's number. -/
theorem word_odd : ∀ g : Fin 4, Scalar.addi (Scalar.muli 2#32 (BitVec.ofNat 32 g.val)) 1#32 = BitVec.ofNat 32 (odd g).val := by
  decide +kernel

/-- Summing pairs of experts over the four steps, in order, is summing over all eight experts. -/
theorem sum_pairs (y : Fin 8 → EReal) :
    ((y (even 0) + y (odd 0) + (y (even 1) + y (odd 1))) + (y (even 2) + y (odd 2))) + (y (even 3) + y (odd 3)) = ∑ e, y e := by
  have he : even 0 = 0 ∧ odd 0 = 1 ∧ even 1 = 2 ∧ odd 1 = 3 ∧ even 2 = 4 ∧ odd 2 = 5 ∧ even 3 = 6 ∧ odd 3 = 7 := by decide
  obtain ⟨h0, h1, h2, h3, h4, h5, h6, h7⟩ := he
  rw [h0, h1, h2, h3, h4, h5, h6, h7, Fin.sum_univ_eight]
  simp only [add_assoc]

end Cert.Moe
-- ==== Proof.KernelBlock.lean ====
/- What one grid step of the kernel computes, read at a token and a model position: the outputs of two experts, each with
   its activations scaled by the token's combine weight for it. -/
module

public import proofs.«01_k».proof.Proof.Gen.KernelIdeal.Value
public import proofs.«01_k».proof.Proof.Experts

@[expose] public section

set_option maxRecDepth 16384

noncomputable section

namespace Cert.KernelIdeal.Moe

open Cert.KernelIdeal Cert.KernelIdeal.Gen Cert.Moe Idealize.ShloMosaic Idealize.ShloMosaic.TcCoe Idealize.SL.Sem

variable (i : grid0.Coords) (g : Fin 4) (hg : (i 0).val = g.val)
variable (xb : Vec Ideal S1024x1024 .bf16) (c : Vec Ideal S1024x8 .f32)
variable (wgu : Vec Ideal S1x1024x1024 .f32) (wd : Vec Ideal S1x1024x512 .f32) (r o : Fin 1024)

/-- The copy of the tokens kept for every step is the tokens. -/
theorem tokens_at (x : Vec Ideal S1024x1024 .f32) (k : Fin 1024) : k0_pay13 (F := Ideal) x (ix2 r k) = x (ix2 r k) := by
  pointwise [k0_pay13]

include hg in
/-- The second expert's weight, out of the row of weights. -/
theorem weight_odd_at : k0_pay14 (F := Ideal) i c (ix2 r 0) = c (ix2 r (odd g)) := by
  pointwise [k0_pay14]
  rw [hg, word_odd]
  exact sum_select_word (fun e => c (ix2 r e)) (odd g)

include hg in
/-- The first expert's part. -/
theorem first_at : k0_pay15 (F := Ideal) i xb c wgu wd (ix2 r o)
    = scaledOut (c (ix2 r (even g))) (fun k => xb (ix2 r k)) (fun f k => wgu (ix3 0 f k)) (fun f => wd (ix3 0 o f)) := by
  pointwise [k0_pay15]
  rw [hg, word_even]
  have := sum_select_word (fun e => c (ix2 r e)) (even g)
  rw [this]
  rfl

/-- The second expert's part, added to what the first left. -/
theorem second_at (w : FVec Ideal S1024x1 .f32) (a : FVec Ideal S1024x1024 .f32) : k0_pay1 (F := Ideal) xb w a wgu wd (ix2 r o)
    = a (ix2 r o) + scaledOut (w (ix2 r 0)) (fun k => xb (ix2 r k)) (fun f k => wgu (ix3 0 f k)) (fun f => wd (ix3 0 o f)) := by
  pointwise [k0_pay1]
  rfl

/-- After the first step, the step's two parts are added to what the output block holds. -/
theorem accumulate_at (w : FVec Ideal S1024x1 .f32) (a old : Vec Ideal S1024x1024 .f32) : k0_pay2 (F := Ideal) xb w a wgu wd old (ix2 r o)
    = old (ix2 r o) + k0_pay1 (F := Ideal) xb w a wgu wd (ix2 r o) := by
  pointwise [k0_pay2]

end Cert.KernelIdeal.Moe
-- ==== Proof.KernelRun.lean ====
/- The kernel's grid: the first step leaves the combine weights and the tokens in scratch, every later step finds them
   there, and the output block collects two experts per step. -/
module

public import proofs.«01_k».proof.Proof.KernelWeights
public import proofs.«01_k».proof.Proof.KernelBlock
public import Idealize.ShloMosaic.Lib.Pipeline.ValueKit

@[expose] public section

set_option maxRecDepth 16384

noncomputable section

namespace Cert.KernelIdeal.Moe

open Cert.KernelIdeal Cert.KernelIdeal.Gen Cert.Moe Idealize.ShloMosaic Idealize.ShloMosaic.TcCoe Idealize.SL.Sem

variable (m : (ℓ : Loc nD τ sig) → Buf (Elt Ideal) ℓ)

/-- Which block each input window shows at grid step `t`. -/
theorem blockAt : ∀ t : Fin cfg0.N, win0_0.index t = ![0, 0] ∧ win0_1.index t = ![0, 0] ∧ win0_2.index t = ![t.val, 0, 0]
    ∧ win0_3.index t = ![t.val, 0, 0] :=
  (by decide +kernel : ∀ t : Fin grid0.N, _)

/-- The grid's one coordinate is the step's number. -/
theorem coordAt : ∀ t : Fin cfg0.N, (grid0.coords t 0).val = t.val :=
  (by decide +kernel : ∀ t : Fin grid0.N, _)

/-- The tokens, whole at every step. -/
theorem tokens_block (c : Dev nD) (t : Fin cfg0.N) : iblk m c 0 t = m ((c : Thread nD τ).loc main_arg0) := by
  blk_ext! [iblk, V, blockAt t]

/-- The router's weights, whole at every step. -/
theorem router_block (c : Dev nD) (t : Fin cfg0.N) : iblk m c 1 t = m ((c : Thread nD τ).loc main_arg1) := by
  blk_ext! [iblk, V, blockAt t]

/-- One of the step's two gate-and-up projections is that of an expert. -/
theorem gateUp_block (c : Dev nD) (t : Fin cfg0.N) (a : Fin 2) (f k : Fin 1024) (e : Fin 8) (he : e.val = t.val * 2 + a.val) :
    (show Vec Ideal S2x1024x1024 .f32 from iblk m c 2 t) (ix3 a f k) = m ((c : Thread nD τ).loc main_arg2) (ix3 e f k) := by
  blk_ext [iblk, V, blockAt t]

/-- One of the step's two down projections is that of an expert. -/
theorem down_block (c : Dev nD) (t : Fin cfg0.N) (a : Fin 2) (o : Fin 1024) (f : Fin 512) (e : Fin 8) (he : e.val = t.val * 2 + a.val) :
    (show Vec Ideal S2x1024x512 .f32 from iblk m c 3 t) (ix3 a o f) = m ((c : Thread nD τ).loc main_arg3) (ix3 e o f) := by
  blk_ext [iblk, V, blockAt t]

/-- The token matrix the run starts from. -/
abbrev X (c : Dev nD) : Vec Ideal S1024x1024 .f32 := m ((c : Thread nD τ).loc main_arg0)

/-- The router matrix the run starts from. -/
abbrev Wr (c : Dev nD) : Vec Ideal S8x1024 .f32 := m ((c : Thread nD τ).loc main_arg1)

/-- The experts' gate-and-up projections the run starts from. -/
abbrev Wgu (c : Dev nD) : Vec Ideal S8x1024x1024 .f32 := m ((c : Thread nD τ).loc main_arg2)

/-- The experts' down projections the run starts from. -/
abbrev Wd (c : Dev nD) : Vec Ideal S8x1024x512 .f32 := m ((c : Thread nD τ).loc main_arg3)

/-- The two experts' parts of one step, added, over the scratch's weights `w` and tokens `xb`. -/
def stepOut (c : Dev nD) (t : Fin cfg0.N) (w : Vec Ideal S1024x8 .f32) (xb : Vec Ideal S1024x1024 .bf16) : Vec Ideal S1024x1024 .f32 :=
  k0_pay1 xb (k0_pay14 (grid0.coords t) w)
    (k0_pay15 (grid0.coords t) xb w
      (View.ld (iblk m c 2 t) (Rect.unit ![0, 0, 0] ![1, 1024, 1024] inb_S2x1024x1024_S1x1024x1024_0_0_0))
      (View.ld (iblk m c 3 t) (Rect.unit ![0, 0, 0] ![1, 1024, 512] inb_S2x1024x512_S1x1024x512_0_0_0)))
    (View.ld (iblk m c 2 t) (Rect.unit ![1, 0, 0] ![1, 1024, 1024] inb_S2x1024x1024_S1x1024x1024_1_0_0))
    (View.ld (iblk m c 3 t) (Rect.unit ![1, 0, 0] ![1, 1024, 512] inb_S2x1024x512_S1x1024x512_1_0_0))

/-- One expert's part of the output at a token and a model position, over the argument arrays. -/
def part (c : Dev nD) (r o : Fin 1024) (e : Fin 8) : EReal :=
  scaledOut (weights (X m c) (Wr m c) (ix2 r e)) (fun k => X m c (ix2 r k))
    (fun f k => Wgu m c (ix3 e f k)) (fun f => Wd m c (ix3 e o f))

/-- One step's sum of two parts is that of its two experts. -/
theorem stepOut_at (c : Dev nD) (t : Fin cfg0.N) (g : Fin 4) (hg : t.val = g.val) (r o : Fin 1024) :
    stepOut m c t (weights (X m c) (Wr m c)) (k0_pay13 (X m c)) (ix2 r o) = part m c r o (even g) + part m c r o (odd g) := by
  have hc : (grid0.coords t 0).val = g.val := (coordAt t).trans hg
  unfold stepOut
  rw [second_at, first_at _ g hc, weight_odd_at _ g hc]
  simp only [tokens_at]
  unfold part
  refine congrArg₂ (· + ·) ?_ ?_
  · refine congrArg₂ (scaledOut _ _) ?_ ?_
    · funext f k
      pointwise
      exact gateUp_block m c t 0 f k (even g) (by simp only [even]; omega)
    · funext f
      pointwise
      exact down_block m c t 0 o f (even g) (by simp only [even]; omega)
  · refine congrArg₂ (scaledOut _ _) ?_ ?_
    · funext f k
      pointwise
      exact gateUp_block m c t 1 f k (odd g) (by simp only [odd]; omega)
    · funext f
      pointwise
      exact down_block m c t 1 o f (odd g) (by simp only [odd]; omega)

/-- A step's parts added to what the output block holds. -/
def added (old y : FVec Ideal S1024x1024 .f32) : Vec Ideal S1024x1024 .f32 := addf old y

/-- What the first step leaves: its two experts, and in scratch the weights and the tokens. -/
theorem first_step (c : Dev nD) (t : Fin cfg0.N) (h : t.val % 4 = 0) (h2 : ¬1 ≤ t.val) :
    outsAt0 m c t.val t.isLt = (stepOut m c t (weights (X m c) (Wr m c)) (k0_pay13 (X m c)), weights (X m c) (Wr m c), k0_pay13 (X m c)) := by
  rw [outsAt0_A m c t h h h2]
  refine Prod.ext ?_ (Prod.ext ?_ ?_)
  · dsimp only
    frame_out
    rw [tokens_block m c t, router_block m c t]
    rfl
  · dsimp only
    frame_out
    rw [tokens_block m c t, router_block m c t]
    rfl
  · dsimp only
    frame_out
    rw [tokens_block m c t]

/-- What a later step leaves: its two experts added to the output block, the scratch as it was. -/
theorem later_step (c : Dev nD) (t : Fin cfg0.N) (h : ¬t.val % 4 = 0) (h2 : 1 ≤ t.val)
    (old : Vec Ideal S1024x1024 .f32) (w : Vec Ideal S1024x8 .f32) (xb : Vec Ideal S1024x1024 .bf16)
    (hprev : outsAt0 m c (t.val - 1) (Nat.lt_of_le_of_lt (Nat.sub_le _ _) t.isLt) = (old, w, xb)) :
    outsAt0 m c t.val t.isLt = (added old (stepOut m c t w xb), w, xb) := by
  rw [outsAt0_B m c t h h h2]
  refine Prod.ext ?_ (Prod.ext ?_ ?_)
  · dsimp only
    frame_out
    have e0 : View.read (Elt Ideal) (View.whole cc0_scratch0) ((Memref.isWhole_whole cc0_scratch0).unread w) = w :=
      (Memref.isWhole_whole cc0_scratch0).read_unread w
    have e1 : View.read (Elt Ideal) (View.whole cc0_scratch1) ((Memref.isWhole_whole cc0_scratch1).unread xb) = xb :=
      (Memref.isWhole_whole cc0_scratch1).read_unread xb
    rw [hprev]
    dsimp only
    rw [e0, e1]
    funext j
    idx_vars j
    rw [accumulate_at]
    rfl
  · dsimp only
    unfold sout0_B_0
    rw [hprev]
  · dsimp only
    unfold sout0_B_1
    rw [hprev]

end Cert.KernelIdeal.Moe
-- ==== Proof.KernelResult.lean ====
/- The kernel's result array read at a token and a model position: the sum of the eight experts' parts. -/
module

public import proofs.«01_k».proof.Proof.KernelRun

@[expose] public section

set_option maxRecDepth 16384

noncomputable section

namespace Cert.KernelIdeal.Moe

open Cert.KernelIdeal Cert.KernelIdeal.Gen Cert.Moe Idealize.ShloMosaic Idealize.ShloMosaic.TcCoe Idealize.SL.Sem

variable (m : (ℓ : Loc nD τ sig) → Buf (Elt Ideal) ℓ)

/-- What the output block holds after step `n`: the steps' parts added in order. -/
def collected (c : Dev nD) : (n : ℕ) → n < cfg0.N → Vec Ideal S1024x1024 .f32
  | 0, h => stepOut m c ⟨0, h⟩ (weights (X m c) (Wr m c)) (k0_pay13 (X m c))
  | n + 1, h => added (collected c n (Nat.lt_of_succ_lt h)) (stepOut m c ⟨n + 1, h⟩ (weights (X m c) (Wr m c)) (k0_pay13 (X m c)))

/-- After every step the output block holds the parts so far, and the scratch the weights and the tokens. -/
theorem after_step (c : Dev nD) : ∀ (n : ℕ) (h : n < cfg0.N),
    outsAt0 m c n h = (collected m c n h, weights (X m c) (Wr m c), k0_pay13 (X m c))
  | 0, h => first_step m c ⟨0, h⟩ rfl (Nat.not_succ_le_zero 0)
  | n + 1, h => by
    have hN : n + 1 < 4 := lt_of_lt_of_eq h N_0
    exact later_step m c ⟨n + 1, h⟩ (by dsimp only; omega) (Nat.succ_le_succ (Nat.zero_le n)) _ _ _
      (after_step c n (Nat.lt_of_succ_lt h))

/-- The result array at a token and a model position is the sum of the experts' parts. -/
theorem result_at (c : Dev nD) (r o : Fin 1024) : Value.G4 m c (ix2 r o) = ∑ e : Fin 8, part m c r o e := by
  have h3 : 3 < cfg0.N := lt_of_lt_of_eq (by decide) N_0.symm
  have hG : Value.G4 m c = collected m c 3 h3 := by
    rw [Value.G4_last, ← Value.outsAt0_sweep m c 3 h3, after_step m c 3 h3]
  rw [hG, ← sum_pairs, ← stepOut_at m c ⟨0, by omega⟩ 0 rfl, ← stepOut_at m c ⟨1, by omega⟩ 1 rfl,
    ← stepOut_at m c ⟨2, by omega⟩ 2 rfl, ← stepOut_at m c ⟨3, h3⟩ 3 rfl]
  rfl

end Cert.KernelIdeal.Moe
-- ==== Proof.RefTerm.lean ====
/- The reference's composed term in named parts over its argument arrays: router probabilities, the top two of each row,
   combine weights, the experts' activations, and the weighted sum. -/
module

public import proofs.«01_k».proof.Proof.Gen.ReferenceIdeal.Run
public import Idealize.ShloMosaic.Lib.Pointwise

@[expose] public section

set_option maxRecDepth 16384

noncomputable section

namespace Cert.ReferenceIdeal.Moe

open Cert.ReferenceIdeal Cert.ReferenceIdeal.Gen Idealize.ShloMosaic Idealize.ShloMosaic.TcCoe Idealize.SL.Sem

/-- The router's logits: tokens times router weights. -/
def logits (x : FVec Ideal S1024x1024 .f32) (wr : FVec Ideal S8x1024 .f32) : FVec Ideal S1024x8 .f32 :=
  Host.dotGeneral dot_S1024x1024_S1024x8_S1024x8_1_0_0_1_n_n none x (transpose S1024x8 [1, 0] wr transposes_S8x1024_S1024x8_1_0)

/-- The exponentials of the logits less their row maximum. -/
def exps (l : FVec Ideal S1024x8 .f32) : FVec Ideal S1024x8 .f32 :=
  Host.exp (subf l (broadcastInDim S1024x8 ![0, 1] bcast_S1024x1_S1024x8_0_1 (broadcastInDim S1024x1 ![0] bcast_S1024_S1024x1_0 (maximumf (broadcastInDim S1024 ![] bcast_S_S1024 (constant S_ .f32 0xFF800000#32)) (Host.reduce FloatOps.maximumf l (constant S_ .f32 0xFF800000#32) reducesTo_S1024x8_S1024_d1 h_S_)))))

/-- The router's probabilities: the exponentials over their row sum. -/
def probs (l : FVec Ideal S1024x8 .f32) : FVec Ideal S1024x8 .f32 :=
  Host.divf (exps l) (broadcastInDim S1024x8 ![0, 1] bcast_S1024x1_S1024x8_0_1 (broadcastInDim S1024x1 ![0] bcast_S1024_S1024x1_0 (Host.reduceAdd (exps l) (constant S_ .f32 0x00000000#32) reducesTo_S1024x8_S1024_d1 h_S_)))

/-- Each row's two greatest probabilities. -/
def topVals (p : FVec Ideal S1024x8 .f32) : FVec Ideal S1024x2 .f32 :=
  (Host.topK S1024x2 1 (FloatOps.cmpfTotal .gt) p sliceFits_S1024x8_S1024x2).1

/-- The positions of each row's two greatest probabilities. -/
def topPos (p : FVec Ideal S1024x8 .f32) : IVec S1024x2 32 :=
  (Host.topK S1024x2 1 (FloatOps.cmpfTotal .gt) p sliceFits_S1024x8_S1024x2).2

/-- The combine weights: the two greatest over their sum, spread to their positions. -/
def combine (v : FVec Ideal S1024x2 .f32) (w : IVec S1024x2 32) : FVec Ideal S1024x8 .f32 :=
  Host.reduceAdd (mulf (uitofp .f32 (cmpi .eq (broadcastInDim S1024x2x8 ![0, 1, 2] bcast_S1024x2x1_S1024x2x8_0_1_2 (broadcastInDim S1024x2x1 ![0, 1] bcast_S1024x2_S1024x2x1_0_1 w)) (broadcastInDim S1024x2x8 ![0, 1, 2] bcast_S1x1x8_S1024x2x8_0_1_2 (iotaInDim S1x1x8 32 2)))) (broadcastInDim S1024x2x8 ![0, 1, 2] bcast_S1024x2x1_S1024x2x8_0_1_2 (broadcastInDim S1024x2x1 ![0, 1] bcast_S1024x2_S1024x2x1_0_1 (Host.divf v (broadcastInDim S1024x2 ![0, 1] bcast_S1024x1_S1024x2_0_1 (broadcastInDim S1024x1 ![0] bcast_S1024_S1024x1_0 (Host.reduceAdd v (constant S_ .f32 0x00000000#32) reducesTo_S1024x2_S1024_d1 h_S_))))))) (constant S_ .f32 0x00000000#32) reducesTo_S1024x2x8_S1024x8_d1 h_S_

/-- Every expert's gate and up projections. -/
def gateUp (x : FVec Ideal S1024x1024 .f32) (wgu : FVec Ideal S8x1024x1024 .f32) : FVec Ideal S1024x8x1024 .f32 :=
  Host.dotGeneral dot_S1024x1024_S8x1024x1024_S1024x8x1024_1_2_0_01_n_n none x wgu

/-- Every expert's activations: `silu(gate) * up`. -/
def act (g : FVec Ideal S1024x8x1024 .f32) : FVec Ideal S1024x8x512 .f32 :=
  mulf (mulf (extractStridedSlice S1024x8x512 ![0, 0, 0] g slices_S1024x8x1024_S1024x8x512_0_0_0) (Host.divf (broadcastInDim S1024x8x512 ![] bcast_S_S1024x8x512 (constant S_ .f32 0x3F800000#32)) (addf (broadcastInDim S1024x8x512 ![] bcast_S_S1024x8x512 (constant S_ .f32 0x3F800000#32)) (Host.exp (Host.negf (extractStridedSlice S1024x8x512 ![0, 0, 0] g slices_S1024x8x1024_S1024x8x512_0_0_0)))))) (extractStridedSlice S1024x8x512 ![0, 0, 512] g slices_S1024x8x1024_S1024x8x512_0_0_512)

/-- The weighted sum of the experts' outputs. -/
def total (c : FVec Ideal S1024x8 .f32) (a : FVec Ideal S1024x8x512 .f32) (wd : FVec Ideal S8x1024x512 .f32) : FVec Ideal S1024x1024 .f32 :=
  Host.dotGeneral dot_S1024x8_S1024x8x1024_S1024x1024_1_1_n_2_0_0 none c (transpose S1024x8x1024 [2, 0, 1] (Host.dotGeneral dot_S8x1024x512_S1024x8x512_S8x1024x1024_2_2_1_0_0_1 none wd a) transposes_S8x1024x1024_S1024x8x1024_2_0_1)

/-- The reference's result over its argument arrays. -/
def result (x : FVec Ideal S1024x1024 .f32) (wr : FVec Ideal S8x1024 .f32) (wgu : FVec Ideal S8x1024x1024 .f32) (wd : FVec Ideal S8x1024x512 .f32) : FVec Ideal S1024x1024 .f32 :=
  total (combine (topVals (probs (logits x wr))) (topPos (probs (logits x wr)))) (act (gateUp x wgu)) wd

/-- The reference run's result is `result` of the argument arrays. -/
theorem res_eq (m : (ℓ : Loc nD τ sig) → Buf (Elt Ideal) ℓ) (c : Dev nD) :
    Value.res_out0 m c = result (m ((c.tc : Thread nD τ).loc main_arg0)) (m ((c.tc : Thread nD τ).loc main_arg1)) (m ((c.tc : Thread nD τ).loc main_arg2)) (m ((c.tc : Thread nD τ).loc main_arg3)) := by
  unfold Value.res_out0 Value.res_main_v29
  rfl

end Cert.ReferenceIdeal.Moe
-- ==== Proof.RefAt.lean ====
/- The reference read at an index: probabilities are the softmax of the logits, the sort's first two positions are the
   row's top two, the combine weights are theirs, and the result is the weighted sum of the experts' outputs. -/
module

public import proofs.«01_k».proof.Proof.RefTerm
public import proofs.«01_k».proof.Proof.Experts

@[expose] public section

set_option maxRecDepth 16384

noncomputable section

namespace Cert.ReferenceIdeal.Moe

open Cert.ReferenceIdeal Cert.ReferenceIdeal.Gen Cert.Moe Idealize.ShloMosaic Idealize.ShloMosaic.TcCoe Idealize.SL.Sem

/-- The pattern of minus infinity is `-∞`. -/
theorem ofBits_neg_inf : Ideal.ofBits .f32 0xFF800000#32 = ⊥ := by
  simp [Ideal.ofBits, Ideal.ieee]

/-- A logit is the token's product with the router's row. -/
theorem logits_at (x : FVec Ideal S1024x1024 .f32) (wr : FVec Ideal S8x1024 .f32) (r : Fin 1024) (e : Fin 8) :
    logits x wr (ix2 r e) = ∑ k : Fin 1024, x (ix2 r k) * wr (ix2 e k) := by
  pointwise [logits]

/-- The probabilities are the softmax of the row of logits. -/
theorem probs_at (l : FVec Ideal S1024x8 .f32) (r : Fin 1024) (e : Fin 8) :
    probs l (ix2 r e) = softmax (fun d => l (ix2 r d)) e := by
  pointwise [probs, exps]
  rw [ofBits_neg_inf]
  rfl

/-- Position `k` on the row through another of its positions. -/
theorem along_row (r : Fin 1024) (k d : Fin 8) : (ix2 r k : S1024x8.Idx).along 1 d = ix2 r d := by
  funext a
  fin_cases a <;> rfl

/-- The sort's comparator on the row is "the entry is larger". -/
theorem comparator_eq (p : FVec Ideal S1024x8 .f32) (r : Fin 1024) (k : Fin 8) :
    (fun a b : Fin 8 => FloatOps.cmpfTotal (F := Ideal) .gt (p ((ix2 r k : S1024x8.Idx).along 1 a)) (p ((ix2 r k : S1024x8.Idx).along 1 b)) == 1#1)
      = larger fun e => p (ix2 r e) := by
  funext a b
  rw [along_row, along_row, larger, Ideal.cmpfTotal_def]
  unfold Ideal.cmp
  simp only [CmpDirection.ordered]
  by_cases h : p (ix2 r b) < p (ix2 r a)
  · simp [h]
  · simp [h]

/-- The values picked are the row's entries at the sort's first two positions. -/
theorem topVals_at (p : FVec Ideal S1024x8 .f32) (r : Fin 1024) (k : Fin 2) :
    topVals p (ix2 r k) = p (ix2 r (sortedFrom (larger fun e => p (ix2 r e)) ⟨k.val, by omega⟩)) := by
  pointwise [topVals, Host.topK, Host.sort2]
  have h := comparator_eq p r ⟨k.val, by omega⟩
  exact (congrArg p (along_row r _ _)).trans (congrArg (fun f : Fin 8 → Fin 8 → Bool => p (ix2 r (sortedFrom f ⟨k.val, by omega⟩))) h)

/-- The positions picked are the sort's first two. -/
theorem topPos_at (p : FVec Ideal S1024x8 .f32) (r : Fin 1024) (k : Fin 2) :
    topPos p (ix2 r k) = BitVec.ofNat 32 (sortedFrom (larger fun e => p (ix2 r e)) ⟨k.val, by omega⟩).val := by
  pointwise [topPos, Host.topK, Host.sort2]
  have h := comparator_eq p r ⟨k.val, by omega⟩
  exact congrArg (fun f : Fin 8 → Fin 8 → Bool => BitVec.ofNat 32 (sortedFrom f ⟨k.val, by omega⟩).val) h

/-- A term of the one-hot sum: the quotient where the positions agree, zero elsewhere. -/
theorem onehot_mul (i e : Fin 8) (y : EReal) :
    FloatOps.uitofp (F := Ideal) .f32 (IntOp.cmpi .eq (BitVec.ofNat 32 i.val) (BitVec.ofNat 32 e.val)) * y = if e = i then y else 0 := by
  have hw : ∀ i e : Fin 8, IntOp.cmpi .eq (BitVec.ofNat 32 i.val) (BitVec.ofNat 32 e.val) = if e = i then 1#1 else 0#1 := by
    decide +kernel
  rw [hw]
  by_cases he : e = i
  · rw [if_pos he, if_pos he]
    have h1 : FloatOps.uitofp (F := Ideal) .f32 1#1 = (1 : EReal) := by
      simp [FloatOps.uitofp]
    rw [h1, one_mul]
  · rw [if_neg he, if_neg he]
    have h0 : FloatOps.uitofp (F := Ideal) .f32 0#1 = (0 : EReal) := by
      simp [FloatOps.uitofp]
    rw [h0, zero_mul]

/-- The combine weights of probabilities are the weights at the sort's first two positions. -/
theorem combine_at (p : FVec Ideal S1024x8 .f32) (r : Fin 1024) (e : Fin 8) :
    combine (topVals p) (topPos p) (ix2 r e)
      = weight (fun d => p (ix2 r d)) (sortedFrom (larger fun d => p (ix2 r d)) 0) (sortedFrom (larger fun d => p (ix2 r d)) 1) e := by
  pointwise [combine]
  rw [Fin.sum_univ_two, Fin.sum_univ_two]
  simp only [topVals_at, topPos_at]
  rw [onehot_mul, onehot_mul]
  rfl

/-- The weighted sum of the experts' outputs. -/
theorem total_at (c : FVec Ideal S1024x8 .f32) (x : FVec Ideal S1024x1024 .f32) (wgu : FVec Ideal S8x1024x1024 .f32)
    (wd : FVec Ideal S8x1024x512 .f32) (r o : Fin 1024) :
    total c (Moe.act (gateUp x wgu)) wd (ix2 r o)
      = ∑ e : Fin 8, c (ix2 r e) * expertOut (fun k => x (ix2 r k)) (fun f k => wgu (ix3 e f k)) (fun f => wd (ix3 e o f)) := by
  pointwise [total, Moe.act, gateUp]
  rfl

/-- The reference's result at a token and a model position. -/
theorem result_at (x : FVec Ideal S1024x1024 .f32) (wr : FVec Ideal S8x1024 .f32) (wgu : FVec Ideal S8x1024x1024 .f32)
    (wd : FVec Ideal S8x1024x512 .f32) (r o : Fin 1024) (i j : Fin 8)
    (hi : i = sortedFrom (larger (softmax fun d => ∑ k : Fin 1024, x (ix2 r k) * wr (ix2 d k))) 0)
    (hj : j = sortedFrom (larger (softmax fun d => ∑ k : Fin 1024, x (ix2 r k) * wr (ix2 d k))) 1) :
    result x wr wgu wd (ix2 r o)
      = ∑ e : Fin 8, weight (softmax fun d => ∑ k : Fin 1024, x (ix2 r k) * wr (ix2 d k)) i j e
          * expertOut (fun k => x (ix2 r k)) (fun f k => wgu (ix3 e f k)) (fun f => wd (ix3 e o f)) := by
  have hp : (fun d => probs (logits x wr) (ix2 r d)) = softmax fun d => ∑ k : Fin 1024, x (ix2 r k) * wr (ix2 d k) := by
    funext d
    rw [probs_at]
    simp only [logits_at]
  unfold result
  rw [total_at]
  refine Finset.sum_congr rfl fun e _ => ?_
  rw [combine_at, hp, ← hi, ← hj]

end Cert.ReferenceIdeal.Moe
-- ==== Proof.Equation.lean ====
/- The equation of the two results: at every token and model position, the kernel's array and the reference's are the
   same extended real, whatever the arguments hold. -/
module

public import proofs.«01_k».proof.Proof.KernelResult
public import proofs.«01_k».proof.Proof.RefAt

@[expose] public section

set_option maxRecDepth 16384

noncomputable section

namespace Cert.Moe

open Idealize.ShloMosaic Idealize.ShloMosaic.TcCoe Idealize.SL.Sem

variable (m : (ℓ : Loc Cert.KernelIdeal.nD Cert.KernelIdeal.τ Cert.KernelIdeal.sig) → Buf (Elt Ideal) ℓ)

/-- One expert's part in the kernel is the reference's: the token's weight for it times the expert's output. -/
theorem part_eq (c : Dev Cert.KernelIdeal.nD) (r o : Fin 1024) (e i j : Fin 8)
    (h : TopTwo (softmax (KernelIdeal.Moe.logitRow (KernelIdeal.Moe.X m c) (KernelIdeal.Moe.Wr m c) r)) i j) :
    KernelIdeal.Moe.part m c r o e
      = weight (softmax (KernelIdeal.Moe.logitRow (KernelIdeal.Moe.X m c) (KernelIdeal.Moe.Wr m c) r)) i j e
        * expertOut (fun k => KernelIdeal.Moe.X m c (ix2 r k)) (fun f k => KernelIdeal.Moe.Wgu m c (ix3 e f k))
          (fun f => KernelIdeal.Moe.Wd m c (ix3 e o f)) := by
  have hp := isProbs_softmax (KernelIdeal.Moe.logitRow (KernelIdeal.Moe.X m c) (KernelIdeal.Moe.Wr m c) r)
  unfold KernelIdeal.Moe.part
  rw [KernelIdeal.Moe.weights_at, maximaWeight_eq hp h, scaledOut_eq (weight_real hp h e)]

/-- The reference's result over the kernel's argument arrays is the kernel's result array. -/
theorem result_eq (c : Dev Cert.KernelIdeal.nD) :
    Cert.ReferenceIdeal.Moe.result (KernelIdeal.Moe.X m c) (KernelIdeal.Moe.Wr m c) (KernelIdeal.Moe.Wgu m c) (KernelIdeal.Moe.Wd m c)
      = KernelIdeal.Value.G4 m c := by
  funext y
  idx_vars y
  refine (ReferenceIdeal.Moe.result_at _ _ _ _ y0 y1 _ _ rfl rfl).trans ?_
  refine Eq.trans ?_ (KernelIdeal.Moe.result_at m c y0 y1).symm
  refine Finset.sum_congr rfl fun e _ => ?_
  exact (part_eq m c y0 y1 e _ _ (topTwo_sortedFrom _)).symm

end Cert.Moe
-- ==== Proof.lean ====
/- The claims' proof assembled: each program's frame by its generated run, and the two results' equality by the equation
   of the kernel's array and the reference's (Proof/Equation.lean). -/
module

public import proofs.«01_k».proof.Defs
public import proofs.«01_k».proof.Proof.Gen.Kernel.Frame
public import proofs.«01_k».proof.Proof.Gen.KernelIdeal.Value
public import proofs.«01_k».proof.Proof.Gen.ReferenceIdeal.Run
public import Idealize.ShloMosaic.Adequacy
public import Idealize.ShloMosaic.Init
public import Idealize.ShloMosaic.Lib.Quiescent
public import proofs.«01_k».proof.Proof.Equation

@[expose] public section

noncomputable section

namespace Cert.Proof

open Idealize.ShloMosaic Idealize.SL.Sem

/-- The reference runs, leaves its arguments unchanged and no counter raised. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From memories agreeing on the arguments, the kernel's result array and the reference's are equal. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  refine (Cert.ReferenceIdeal.Moe.res_eq m' c).trans ?_
  rw [(hagree c).1, (hagree c).2.1, (hagree c).2.2.1, (hagree c).2.2.2]
  exact Cert.Moe.result_eq m c

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
